-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x1024 : Shape := ⟨3, ![16, 2048, 1024]⟩
abbrev S64x2048 : Shape := ⟨2, ![64, 2048]⟩
abbrev S2x8x2048x1024 : Shape := ⟨4, ![2, 8, 2048, 1024]⟩
abbrev S2x8x64x2048 : Shape := ⟨4, ![2, 8, 64, 2048]⟩
abbrev S1x1x2048x1024 : Shape := ⟨4, ![1, 1, 2048, 1024]⟩
abbrev S2x1x64x2048 : Shape := ⟨4, ![2, 1, 64, 2048]⟩
abbrev S2048x1024 : Shape := ⟨2, ![2048, 1024]⟩
abbrev S64x1024 : Shape := ⟨2, ![64, 1024]⟩
abbrev S1024 : Shape := ⟨1, ![1024]⟩
abbrev S1x1024 : Shape := ⟨2, ![1, 1024]⟩
abbrev S64 : Shape := ⟨1, ![64]⟩
abbrev S64x1 : Shape := ⟨2, ![64, 1]⟩
abbrev S1x64x2048 : Shape := ⟨3, ![1, 64, 2048]⟩
abbrev S1 : Shape := ⟨1, ![1]⟩
abbrev S1x1x1 : Shape := ⟨3, ![1, 1, 1]⟩
abbrev S1x1x64x2048 : Shape := ⟨4, ![1, 1, 64, 2048]⟩
abbrev S16x131072 : Shape := ⟨2, ![16, 131072]⟩

abbrev nBuf : Space → Nat
  | .hbm => 6
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S64x2048, .f32⟩
  | .hbm, ⟨2, _⟩ => ⟨S64x2048, .f32⟩
  | .hbm, ⟨3, _⟩ => ⟨S2x8x2048x1024, .f32⟩
  | .hbm, ⟨4, _⟩ => ⟨S2x8x64x2048, .f32⟩
  | .hbm, ⟨5, _⟩ => ⟨S16x131072, .f32⟩
  | .local _ .vmem, ⟨0, _⟩ => ⟨S1x1x2048x1024, .f32⟩
  | .local _ .vmem, ⟨1, _⟩ => ⟨S1x1x2048x1024, .f32⟩
  | .local _ .vmem, ⟨2, _⟩ => ⟨S1x1x2048x1024, .f32⟩
  | .local _ .vmem, ⟨3, _⟩ => ⟨S1x1x2048x1024, .f32⟩
  | .local _ .vmem, ⟨4, _⟩ => ⟨S64x2048, .f32⟩
  | .local _ .vmem, ⟨5, _⟩ => ⟨S64x2048, .f32⟩
  | .local _ .vmem, ⟨6, _⟩ => ⟨S2x1x64x2048, .f32⟩
  | .local _ .vmem, ⟨7, _⟩ => ⟨S2x1x64x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x2048x1024 : Shape := ⟨3, ![16, 2048, 1024]⟩
abbrev S64x2048 : Shape := ⟨2, ![64, 2048]⟩
abbrev S16x1024x64 : Shape := ⟨3, ![16, 1024, 64]⟩
abbrev S16x64x1024 : Shape := ⟨3, ![16, 64, 1024]⟩
abbrev S_ : Shape := ⟨0, ![]⟩
abbrev S16x1024 : Shape := ⟨2, ![16, 1024]⟩
abbrev S16x1x1024 : Shape := ⟨3, ![16, 1, 1024]⟩
abbrev S16x64x2048 : Shape := ⟨3, ![16, 64, 2048]⟩
abbrev S16x64 : Shape := ⟨2, ![16, 64]⟩
abbrev S16x64x1 : Shape := ⟨3, ![16, 64, 1]⟩
abbrev S1x64x2048 : Shape := ⟨3, ![1, 64, 2048]⟩
abbrev S16x131072 : Shape := ⟨2, ![16, 131072]⟩
abbrev S16 : Shape := ⟨1, ![16]⟩
abbrev S16x1 : Shape := ⟨2, ![16, 1]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S64x2048, .f32⟩
  | .hbm, ⟨2, _⟩ => ⟨S64x2048, .f32⟩
  | .hbm, ⟨3, _⟩ => ⟨S16x1024x64, .f32⟩
  | .hbm, ⟨4, _⟩ => ⟨S16x64x1024, .f32⟩
  | .hbm, ⟨5, _⟩ => ⟨S_, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1x1024, .f32⟩
  | .hbm, ⟨11, _⟩ => ⟨S16x64x1024, .f32⟩
  | .hbm, ⟨12, _⟩ => ⟨S16x64x1024, .f32⟩
  | .hbm, ⟨13, _⟩ => ⟨S16x64x1024, .f32⟩
  | .hbm, ⟨14, _⟩ => ⟨S_, .f32⟩
  | .hbm, ⟨15, _⟩ => ⟨S16x1024, .f32⟩
  | .hbm, ⟨16, _⟩ => ⟨S16x1x1024, .f32⟩
  | .hbm, ⟨17, _⟩ => ⟨S16x64x1024, .f32⟩
  | .hbm, ⟨18, _⟩ => ⟨S16x64x1024, .f32⟩
  | .hbm, ⟨19, _⟩ => ⟨S16x64x2048, .f32⟩
  | .hbm, ⟨20, _⟩ => ⟨S_, .f32⟩
  | .hbm, ⟨21, _⟩ => ⟨S16x64, .f32⟩
  | .hbm, ⟨22, _⟩ => ⟨S16x64x1, .f32⟩
  | .hbm, ⟨23, _⟩ => ⟨S1x64x2048, .f32⟩
  | .hbm, ⟨24, _⟩ => ⟨S16x64x2048, .f32⟩
  | .hbm, ⟨25, _⟩ => ⟨S16x64x2048, .f32⟩
  | .hbm, ⟨26, _⟩ => ⟨S16x64x2048, .f32⟩
  | .hbm, ⟨27, _⟩ => ⟨S16x64x2048, .f32⟩
  | .hbm, ⟨28, _⟩ => ⟨S16x131072, .f32⟩
  | .hbm, ⟨29, _⟩ => ⟨S16x131072, .f32⟩
  | .hbm, ⟨30, _⟩ => ⟨S_, .f32⟩
  | .hbm, ⟨31, _⟩ => ⟨S16, .f32⟩
  | .hbm, ⟨32, _⟩ => ⟨S16x1, .f32⟩
  | .hbm, ⟨33, _⟩ => ⟨S16x1, .f32⟩
  | .hbm, ⟨34, _⟩ => ⟨S_, .f32⟩
  | .hbm, ⟨35, _⟩ => ⟨S16x1, .f32⟩
  | .hbm, ⟨36, _⟩ => ⟨S16x1, .f32⟩
  | .hbm, ⟨37, _⟩ => ⟨S16x131072, .f32⟩
  | .hbm, ⟨38, _⟩ => ⟨S16x131072, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_call0_v2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.Spec.lean ====
/-
  THE AGGREGATION OF ONE SAMPLE, on extended reals.

  A sample is a matrix `X` of 2048 channels by 1024 positions. With 64 clusters, a weight row `W k` and a centre `C k`
  for each cluster `k`:

  * `logit`    — the weight row of a cluster against the channels of a position;
  * `assign`   — the soft assignment of a position to the clusters: the softmax of its logits over the clusters;
  * `residual` — the assigned sum of the positions, less the centre times the cluster's total assignment;
  * `bound`    — the Euclidean norm of all the residuals of the sample, but never less than `eps`;
  * `vlad`     — the residual divided by that bound.
-/
module

public import Idealize.ShloMosaic.PureOps.Ideal
public import Idealize.ShloMosaic.Lib.IdealHost

@[expose] public section

noncomputable section

namespace Cert.Netvlad

open Idealize.ShloMosaic

/-- The matrices of the sample: channels by positions. -/
abbrev Sample := Fin 2048 → Fin 1024 → EReal
/-- The parameters: one row of 2048 channels for each of the 64 clusters. -/
abbrev Rows := Fin 64 → Fin 2048 → EReal

/-- The value of the f32 pattern of minus infinity, the neutral value of the maximum. -/
def negInf : EReal := Ideal.ofBits .f32 0xFF800000#32
/-- The value of the f32 pattern nearest 1e-12, the least value the norm is divided by. -/
def eps : EReal := Ideal.ofBits .f32 0x2B8CBCCC#32

variable (W C : Rows) (X : Sample)

/-- The logit of cluster `k` at position `n`. -/
def logit (k : Fin 64) (n : Fin 1024) : EReal := ∑ c : Fin 2048, W k c * X c n

/-- The greatest logit of position `n`. -/
def top (n : Fin 1024) : EReal := Finset.univ.fold max negInf fun k : Fin 64 => logit W X k n

/-- The exponential of a logit less the greatest of its position. -/
def weight (k : Fin 64) (n : Fin 1024) : EReal := Ideal.exp (logit W X k n - top W X n)

/-- The soft assignment of position `n` to cluster `k`. -/
def assign (k : Fin 64) (n : Fin 1024) : EReal := Ideal.div (weight W X k n) (∑ k' : Fin 64, weight W X k' n)

/-- The residual of cluster `k` at channel `c`. -/
def residual (k : Fin 64) (c : Fin 2048) : EReal :=
  (∑ n : Fin 1024, assign W X k n * X c n) - (∑ n : Fin 1024, assign W X k n) * C k c

/-- The sum of the squares of every residual of the sample. -/
def sumSq : EReal := ∑ k : Fin 64, ∑ c : Fin 2048, residual W C X k c * residual W C X k c

/-- The norm the residuals are divided by. -/
def bound : EReal := max (Ideal.sqrt (sumSq W C X)) eps

/-- The normalised residual of cluster `k` at channel `c`: what both programs compute. -/
def vlad (k : Fin 64) (c : Fin 2048) : EReal := Ideal.div (residual W C X k c) (bound W C X)

/-- The least divisor is positive. -/
theorem eps_pos : 0 < eps := by
  unfold eps
  simp [Ideal.ofBits, Ideal.ieee, -EReal.coe_mul]

/-- So the bound is never zero. -/
theorem bound_ne_zero : bound W C X ≠ 0 := (lt_of_lt_of_le eps_pos (le_max_right _ _)).ne'

/-- Multiplying a residual by the reciprocal of the bound is dividing it by the bound. -/
theorem vlad_eq_mul (k : Fin 64) (c : Fin 2048) :
    residual W C X k c * Ideal.div 1 (bound W C X) = vlad W C X k c :=
  Ideal.mul_one_div (bound_ne_zero W C X)

/-- Taking the maximum with the neutral value once more changes nothing. -/
theorem max_negInf_top (n : Fin 1024) : max negInf (top W X n) = top W X n :=
  max_eq_right ((Finset.le_fold_max negInf).2 (Or.inl le_rfl))

end Cert.Netvlad

end
-- ==== Proof.Block.lean ====
/-
  WHAT ONE GRID POINT COMPUTES. The body of the kernel treats two samples, one after the other, by the same operations.
  Here each value it computes on the way is read at an index and is the corresponding quantity of Proof/Spec.lean; the
  last, what is stored for one sample, is `vlad` (`pay1_at`, and `pay2_at` for the second sample).
-/
module

public import proofs.«01_k».proof.Proof.Spec
public import proofs.«01_k».proof.Proof.Gen.KernelIdeal.Skeleton
public import Idealize.ShloMosaic.Lib.Pointwise

@[expose] public section

noncomputable section

namespace Cert.Netvlad

open Idealize.ShloMosaic Cert.KernelIdeal Cert.KernelIdeal.Gen

/-- A 64 by 2048 vector as a function of its two coordinates. -/
abbrev rows (v : Vec Ideal S64x2048 .f32) : Rows := fun k c => v (ix2 k c)
/-- The sample a block of the first operand holds. -/
abbrev sample (x : Vec Ideal S1x1x2048x1024 .f32) : Sample := fun c n => x (ix4 0 0 c n)

variable (w cs : Vec Ideal S64x2048 .f32) (x : Vec Ideal S1x1x2048x1024 .f32)

/-- The sample as the matrix unit reads it: the block without its two unit axes. -/
theorem pay4_apply (c : Fin 2048) (n : Fin 1024) : k0_pay4 x (ix2 c n) = sample x c n := by
  pointwise [k0_pay4]

/-- The softmax of the logits over the clusters is the soft assignment. -/
theorem pay6_apply (k : Fin 64) (n : Fin 1024) :
    k0_pay6 w x (ix2 k n) = assign (rows w) (sample x) k n := by
  pointwise [k0_pay6, k0_pay3, pay4_apply, assign, weight, top, logit, negInf]

/-- The total assignment of a cluster. -/
theorem pay7_apply (k : Fin 64) :
    k0_pay7 w x (ix2 k 0) = ∑ n : Fin 1024, assign (rows w) (sample x) k n := by
  pointwise [k0_pay7, pay6_apply]

/-- The assigned sum of the positions. -/
theorem pay10_apply (k : Fin 64) (c : Fin 2048) :
    k0_pay10 w x (ix2 k c) = ∑ n : Fin 1024, assign (rows w) (sample x) k n * sample x c n := by
  pointwise [k0_pay10, pay6_apply, pay4_apply]

/-- What is stored for the sample: the kernel multiplies by the reciprocal of the bound, which is dividing by it. -/
theorem pay1_apply (k : Fin 64) (c : Fin 2048) :
    k0_pay1 cs (k0_pay7 w x) (k0_pay10 w x) (ix4 0 0 k c) = vlad (rows w) (rows cs) (sample x) k c := by
  rw [← vlad_eq_mul]
  pointwise [k0_pay1, pay7_apply, pay10_apply, residual, bound, eps, sumSq]
  rfl

/-- The same at any index of the block. -/
theorem pay1_at (j : S1x1x64x2048.Idx) :
    k0_pay1 cs (k0_pay7 w x) (k0_pay10 w x) j = vlad (rows w) (rows cs) (sample x) (j 2) (j 3) := by
  obtain ⟨a, b, k, c, rfl⟩ : ∃ (a b : Fin 1) (k : Fin 64) (c : Fin 2048), j = ix4 a b k c :=
    ⟨j 0, j 1, j 2, j 3, by idx_ext⟩
  rw [Subsingleton.elim a 0, Subsingleton.elim b 0]
  exact pay1_apply w cs x k c

/-- The second half of the body is the first half on the other sample. -/
theorem pay2_at (j : S1x1x64x2048.Idx) :
    k0_pay2 cs (k0_pay9 w x) (k0_pay11 w x) j = vlad (rows w) (rows cs) (sample x) (j 2) (j 3) :=
  pay1_at w cs x j

end Cert.Netvlad

end
-- ==== Proof.Array.lean ====
/-
  WHAT THE GRID LEAVES IN ITS OUTPUT ARRAY. Point `t` reads sample `t` of each half of the batch and writes block `t` of
  the array of two halves, eight samples, 64 clusters and 2048 channels. Each block is the block of one function `G` of
  the arrays the grid starts from (`flushed_eq`), and the blocks tile the array (`cover`), so the array ends at `G` (`final`).
-/
module

public import proofs.«01_k».proof.Proof.Block
public import proofs.«01_k».proof.Proof.Gen.KernelIdeal.Frame
public import Idealize.ShloMosaic.Lib.Pipeline.Value

@[expose] public section

set_option maxRecDepth 16384

noncomputable section

namespace Cert.Netvlad

open Idealize.ShloMosaic Idealize.ShloMosaic.TcCoe Cert.KernelIdeal Cert.KernelIdeal.Gen
open Idealize.ShloMosaic.Pipeline (Dat)

/-- The offsets of a load of a whole block of rank two are all zero. -/
theorem hz2 : (![0, 0] : Fin 2 → Nat) = fun _ => 0 := funext fun a => by fin_cases a <;> rfl
/-- The offsets of a load of a whole block of rank four are all zero. -/
theorem hz4 : (![0, 0, 0, 0] : Fin 4 → Nat) = fun _ => 0 := funext fun a => by fin_cases a <;> rfl

/-- The block of two samples: half 0 is the first sample's result, half 1 the second's. -/
def pairBlock (x0 x1 : Vec Ideal S1x1x2048x1024 .f32) (w cs : Vec Ideal S64x2048 .f32) : Vec Ideal S2x1x64x2048 .f32 :=
  fun y => vlad (rows w) (rows cs) (sample (if (y 0).val = 0 then x0 else x1)) (y 2) (y 3)

/-- What the body leaves in its output block. -/
theorem out_eq (x0 x1 : Vec Ideal S1x1x2048x1024 .f32) (w cs : Vec Ideal S64x2048 .f32) :
    out0_4 x0 x1 w cs = pairBlock x0 x1 w cs := by
  funext y
  unfold out0_4
  rw [View.ld_unit_zero hz2, View.ld_unit_zero hz2, View.ld_unit_zero hz4, View.ld_unit_zero hz4]
  refine View.canon_apply_of_pieces
    (pairBlock x0 x1 w cs) _ ?_ y (cover0_4 _ _ y)
  intro p hp x
  simp only [List.mem_cons, List.mem_nil_iff, or_false] at hp
  rcases hp with rfl | rfl
  · refine (pay2_at w cs x1 x).trans ?_
    have h0 : ¬ (r0_3.emb x 0).val = 0 := by
      rw [show (r0_3.emb x 0).val = 1 + 1 * (x 0).val from Rect.emb_apply ..]; omega
    have h2 : r0_3.emb x 2 = x 2 := Fin.ext ((Rect.emb_apply ..).trans (by show 0 + 1 * (x 2 : Nat) = x 2; omega))
    have h3 : r0_3.emb x 3 = x 3 := Fin.ext ((Rect.emb_apply ..).trans (by show 0 + 1 * (x 3 : Nat) = x 3; omega))
    unfold pairBlock
    rw [h2, h3, if_neg h0]
  · refine (pay1_at w cs x0 x).trans ?_
    have hx : (x 0 : Nat) < 1 := (x 0).isLt
    have h0 : (r0_2.emb x 0).val = 0 := by
      rw [show (r0_2.emb x 0).val = 0 + 1 * (x 0).val from Rect.emb_apply ..]; omega
    have h2 : r0_2.emb x 2 = x 2 := Fin.ext ((Rect.emb_apply ..).trans (by show 0 + 1 * (x 2 : Nat) = x 2; omega))
    have h3 : r0_2.emb x 3 = x 3 := Fin.ext ((Rect.emb_apply ..).trans (by show 0 + 1 * (x 3 : Nat) = x 3; omega))
    unfold pairBlock
    rw [h2, h3, if_pos h0]

variable (m : (ℓ : Loc nD τ sig) → Buf (Elt Ideal) ℓ)

/-- Where each window's block starts at point `t`. -/
theorem idx_facts : ∀ t : Fin cfg0.N,
    (win0_0.index t 0 = 0 ∧ win0_0.index t 1 = t.val ∧ win0_0.index t 2 = 0 ∧ win0_0.index t 3 = 0)
    ∧ (win0_1.index t 0 = 1 ∧ win0_1.index t 1 = t.val ∧ win0_1.index t 2 = 0 ∧ win0_1.index t 3 = 0)
    ∧ (win0_2.index t 0 = 0 ∧ win0_2.index t 1 = 0) ∧ (win0_3.index t 0 = 0 ∧ win0_3.index t 1 = 0)
    ∧ (win0_4.index t 0 = 0 ∧ win0_4.index t 1 = t.val ∧ win0_4.index t 2 = 0 ∧ win0_4.index t 3 = 0) :=
  (by decide +kernel : ∀ t : Fin grid0.N, _)

/-- The whole array the region is shown to leave. -/
def G (c : Dev nD) : Vec Ideal S2x8x64x2048 .f32 := fun i =>
  vlad (rows (V m c main_arg1)) (rows (V m c main_arg2))
    (fun ch n => (V m c main_v0 : Vec Ideal S2x8x2048x1024 .f32) (ix4 (i 0) (i 1) ch n)) (i 2) (i 3)

/-- The first operand's block at point `t` is sample `t` of the first half. -/
theorem iblk0_apply (c : Dev nD) (t : Fin cfg0.N) (ch : Fin 2048) (n : Fin 1024) :
    iblk m c 0 t (ix4 0 0 ch n) = (V m c main_v0 : Vec Ideal S2x8x2048x1024 .f32) (ix4 0 (t.cast N_0) ch n) := by
  obtain ⟨⟨h0, h1, h2, h3⟩, -⟩ := idx_facts t
  show (V m c main_v0 : Vec Ideal S2x8x2048x1024 .f32) ((win0_0.rect t).emb (ix4 0 0 ch n)) = _
  congr 1
  funext a
  apply Fin.ext
  refine (Pipeline.Window.rect_emb_val win0_0 t _ _).trans ?_
  fin_cases a
  · show win0_0.index t 0 * 1 + 0 = 0
    rw [h0]
  · show win0_0.index t 1 * 1 + 0 = t.val
    rw [h1]; omega
  · show win0_0.index t 2 * 2048 + ch.val = ch.val
    rw [h2]; omega
  · show win0_0.index t 3 * 1024 + n.val = n.val
    rw [h3]; omega

/-- The second operand's block at point `t` is sample `t` of the second half. -/
theorem iblk1_apply (c : Dev nD) (t : Fin cfg0.N) (ch : Fin 2048) (n : Fin 1024) :
    iblk m c 1 t (ix4 0 0 ch n) = (V m c main_v0 : Vec Ideal S2x8x2048x1024 .f32) (ix4 1 (t.cast N_0) ch n) := by
  obtain ⟨-, ⟨h0, h1, h2, h3⟩, -⟩ := idx_facts t
  show (V m c main_v0 : Vec Ideal S2x8x2048x1024 .f32) ((win0_1.rect t).emb (ix4 0 0 ch n)) = _
  congr 1
  funext a
  apply Fin.ext
  refine (Pipeline.Window.rect_emb_val win0_1 t _ _).trans ?_
  fin_cases a
  · show win0_1.index t 0 * 1 + 0 = 1
    rw [h0]
  · show win0_1.index t 1 * 1 + 0 = t.val
    rw [h1]; omega
  · show win0_1.index t 2 * 2048 + ch.val = ch.val
    rw [h2]; omega
  · show win0_1.index t 3 * 1024 + n.val = n.val
    rw [h3]; omega

/-- The weights' block is the whole array of weights, at every point. -/
theorem iblk2_eq (c : Dev nD) (t : Fin cfg0.N) : (iblk m c 2 t : Vec Ideal S64x2048 .f32) = V m c main_arg1 := by
  obtain ⟨-, -, ⟨h0, h1⟩, -⟩ := idx_facts t
  funext y
  show (V m c main_arg1 : Vec Ideal S64x2048 .f32) ((win0_2.rect t).emb y) = _
  congr 1
  funext a
  apply Fin.ext
  refine (Pipeline.Window.rect_emb_val win0_2 t _ _).trans ?_
  fin_cases a
  · show win0_2.index t 0 * 64 + (y 0).val = (y 0).val
    rw [h0]; omega
  · show win0_2.index t 1 * 2048 + (y 1).val = (y 1).val
    rw [h1]; omega

/-- The centres' block is the whole array of centres, at every point. -/
theorem iblk3_eq (c : Dev nD) (t : Fin cfg0.N) : (iblk m c 3 t : Vec Ideal S64x2048 .f32) = V m c main_arg2 := by
  obtain ⟨-, -, -, ⟨h0, h1⟩, -⟩ := idx_facts t
  funext y
  show (V m c main_arg2 : Vec Ideal S64x2048 .f32) ((win0_3.rect t).emb y) = _
  congr 1
  funext a
  apply Fin.ext
  refine (Pipeline.Window.rect_emb_val win0_3 t _ _).trans ?_
  fin_cases a
  · show win0_3.index t 0 * 64 + (y 0).val = (y 0).val
    rw [h0]; omega
  · show win0_3.index t 1 * 2048 + (y 1).val = (y 1).val
    rw [h1]; omega

/-- What point `t` writes back is block `t` of the whole array. -/
theorem flushed_eq (c : Dev nD) (t : Fin cfg0.N) :
    (dats m 0 c).flushed 4 t = (win0_4.blk t).view.read (Elt Ideal) (G m c) := by
  show (cfg0.win 4).cut (grid0.coords t) ((dats m 0 c).after 4 t) = _
  rw [after0_4]
  funext y
  show out0_4 (iblk m c 0 t) (iblk m c 1 t) (iblk m c 2 t) (iblk m c 3 t) y = G m c ((win0_4.rect t).emb y)
  obtain ⟨-, -, -, -, h0, h1, h2, h3⟩ := idx_facts t
  have hy0 : (y 0).val < 2 := (y 0).isLt
  have hy1 : (y 1).val < 1 := (y 1).isLt
  have e (h : Fin 2) (hy : (y 0).val = h.val) :
      ((win0_4.rect t).emb y : S2x8x64x2048.Idx) = ix4 h (t.cast N_0) (y 2) (y 3) := by
    funext a
    apply Fin.ext
    refine (Pipeline.Window.rect_emb_val win0_4 t _ _).trans ?_
    fin_cases a
    · show win0_4.index t 0 * 2 + (y 0).val = h.val
      rw [h0]; omega
    · show win0_4.index t 1 * 1 + (y 1).val = t.val
      rw [h1]; omega
    · show win0_4.index t 2 * 64 + (y 2).val = (y 2).val
      rw [h2]; omega
    · show win0_4.index t 3 * 2048 + (y 3).val = (y 3).val
      rw [h3]; omega
  rw [out_eq, iblk2_eq, iblk3_eq]
  unfold pairBlock
  by_cases hy : (y 0).val = 0
  · rw [if_pos hy, e 0 hy, show sample (iblk m c 0 t) = _ from funext fun ch => funext fun n => iblk0_apply m c t ch n]
    rfl
  · rw [if_neg hy, e 1 (by show (y 0).val = 1; omega),
      show sample (iblk m c 1 t) = _ from funext fun ch => funext fun n => iblk1_apply m c t ch n]
    rfl

/-- The blocks tile the array. -/
theorem cover (i : S2x8x64x2048.Idx) :
    ∃ t : Fin cfg0.N, (cfg0.win 4).flush t = true ∧ i ∈ ((cfg0.win 4).blk t).view.set := by
  have hi : ∀ a, (i a).val < S2x8x64x2048.size a := fun a => (i a).isLt
  obtain ⟨t, ht⟩ : ∃ t : Fin cfg0.N, t.val = (i 1).val := ⟨⟨(i 1).val, by rw [show cfg0.N = 8 from N_0]; exact hi 1⟩, rfl⟩
  refine ⟨t, flush0_4 _, ?_⟩
  obtain ⟨-, -, -, -, h0, h1, h2, h3⟩ := idx_facts t
  show i ∈ ((View.whole main_v1).slice (win0_4.rect t)).set
  rw [View.set_slice_whole, Rect.mem_set_unit]
  intro a
  fin_cases a
  · show win0_4.index t 0 * 2 ≤ (i 0).val ∧ (i 0).val < win0_4.index t 0 * 2 + 2
    rw [h0]; have : (i 0).val < 2 := hi 0; omega
  · show win0_4.index t 1 * 1 ≤ (i 1).val ∧ (i 1).val < win0_4.index t 1 * 1 + 1
    rw [h1]; omega
  · show win0_4.index t 2 * 64 ≤ (i 2).val ∧ (i 2).val < win0_4.index t 2 * 64 + 64
    rw [h2]; have : (i 2).val < 64 := hi 2; omega
  · show win0_4.index t 3 * 2048 ≤ (i 3).val ∧ (i 3).val < win0_4.index t 3 * 2048 + 2048
    rw [h3]; have : (i 3).val < 2048 := hi 3; omega

/-- So the array ends holding `G`. -/
theorem final (c : Dev nD) : (dats m 0 c).arrAt 4 cfg0.N = G m c :=
  (dats m 0 c).arrAt_eq_of_cover 4 (G m c) (fun t _ => flushed_eq m c t) cover

end Cert.Netvlad

end
-- ==== Proof.Result.lean ====
/-
  THE KERNEL'S RUN. @main reshapes the batch of sixteen samples to two halves of eight, runs the grid, and reshapes the
  array the grid leaves to one row for each sample. Read at an index, the two reshapes cancel: row `b` of the result is
  the aggregation of sample `b` of the batch (`result`, `tail_result`), and every run ends there (`run`).
-/
module

public import proofs.«01_k».proof.Proof.Array

@[expose] public section

set_option maxRecDepth 16384

noncomputable section

namespace Cert.Netvlad

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The batch the kernel is given. -/
abbrev batch (c : Dev nD) : Vec Ideal S16x2048x1024 .f32 := m ((c : Thread nD τ).loc main_arg0)
/-- The weights the kernel is given. -/
abbrev weights (c : Dev nD) : Rows := rows (m ((c : Thread nD τ).loc main_arg1))
/-- The centres the kernel is given. -/
abbrev centres (c : Dev nD) : Rows := rows (m ((c : Thread nD τ).loc main_arg2))

/-- The value of @main's result: row `b` is the aggregation of sample `b`, the clusters one after the other. -/
def result (c : Dev nD) : Vec Ideal S16x131072 .f32 := fun i =>
  vlad (weights m c) (centres m c) (fun ch n => batch m c (ix3 (i 0) ch n))
    ⟨(i 1).val / 2048, by have : (i 1).val < 131072 := (i 1).isLt; omega⟩
    ⟨(i 1).val % 2048, by omega⟩

/-- The region is entered with the batch reshaped to two halves of eight samples. -/
theorem V_main_v0 (c : Dev nD) :
    (V m c main_v0 : Vec Ideal S2x8x2048x1024 .f32)
      = shapeCast S2x8x2048x1024 (batch m c) shapeCasts_S16x2048x1024_S2x8x2048x1024 := by
  show StableHlo.after (List.flatten [hostOps0]) (fun b => m (c, b)) (Proc.devRef .tc main_v0) = _
  simp only [List.flatten_cons, List.flatten_nil, List.append_nil]
  after_results
  rfl

/-- Sample `b'` of half `h` is sample `8 h + b'` of the batch. -/
theorem V_main_v0_apply (c : Dev nD) (h : Fin 2) (b : Fin 8) (ch : Fin 2048) (n : Fin 1024) :
    (V m c main_v0 : Vec Ideal S2x8x2048x1024 .f32) (ix4 h b ch n)
      = batch m c (ix3 ⟨h.val * 8 + b.val, by omega⟩ ch n) := by
  rw [V_main_v0]
  pointwise

/-- @main's result after the run: the array the region leaves, its two halves joined. -/
theorem tail_eq (c : Dev nD) :
    (Pipeline.afterTail₀ cfgs (dats m) 0 (V0 m) [hostOps1] c main_v2 : Vec Ideal S16x131072 .f32)
      = shapeCast S16x131072 (G m c) shapeCasts_S2x8x64x2048_S16x131072 := by
  unfold Pipeline.afterTail₀
  simp only [List.flatten_cons, List.flatten_nil, List.append_nil]
  have h := (dats m 0 c).withArrays_arrAt sharedIn0 (V0 m c) (A_eq m c) 4
  rw [final] at h
  after_results
  exact congrArg (fun v : Vec Ideal S2x8x64x2048 .f32 => shapeCast S16x131072 v shapeCasts_S2x8x64x2048_S16x131072) h

/-- So @main's result is `result`. -/
theorem tail_result (c : Dev nD) :
    (Pipeline.afterTail₀ cfgs (dats m) 0 (V0 m) [hostOps1] c main_v2 : Vec Ideal S16x131072 .f32) = result m c := by
  rw [tail_eq]
  funext i
  pointwise [G]
  rw [V_main_arg1, V_main_arg2]
  unfold result
  congr 1
  funext ch n
  rw [V_main_v0_apply]
  congr 2
  apply Fin.ext
  show (i 0).val / 8 * 8 + (i 0).val % 8 = (i 0).val
  omega

/-- Every run of the kernel ends with @main's result at `result` and the arguments as they were given. -/
theorem run : θ_run defs (onTc (τ := τ) (main (F := Ideal))) ⟨m, fun _ => 0, ρ⟩ fun r => ∀ c : Dev nD,
    r.2.mem ((c : Thread nD τ).loc main_v2) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans (tail_result m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c)))⟩)
    (run_main m ρ)

end Cert.Netvlad

end
-- ==== Proof.Reference.lean ====
/-
  WHAT THE REFERENCE COMPUTES. Its operations are read at an index in program order; each value is the corresponding
  quantity of Proof/Spec.lean, and the result at row `b` is the aggregation of sample `b` (`v26_apply`, `result_eq`).
  Three steps differ from the kernel's: a logit multiplies in the other order, the greatest logit is compared once more
  with minus infinity, and the norm is one sum over 131072 positions where `sumSq` is a sum over clusters and channels.
-/
module

public import proofs.«01_k».proof.Proof.Spec
public import proofs.«01_k».proof.Proof.Gen.ReferenceIdeal.Read
public import Idealize.ShloMosaic.Lib.Pointwise

@[expose] public section

set_option maxRecDepth 16384

noncomputable section

namespace Cert.Netvlad.Reference

open Idealize.ShloMosaic Cert.ReferenceIdeal Cert.ReferenceIdeal.Gen Cert.ReferenceIdeal.Read

/-- A 64 by 2048 array as a function of its two coordinates. -/
abbrev rows (v : (⟨S64x2048, .f32⟩ : BufTy).Contents (Elt Ideal)) : Rows := fun k c => v (ix2 k c)
/-- Sample `b` of the batch. -/
abbrev sample (x : (⟨S16x2048x1024, .f32⟩ : BufTy).Contents (Elt Ideal)) (b : Fin 16) : Sample := fun c n => x (ix3 b c n)

variable (x : (⟨S16x2048x1024, .f32⟩ : BufTy).Contents (Elt Ideal)) (w cs : (⟨S64x2048, .f32⟩ : BufTy).Contents (Elt Ideal))

/-- The transposed product is the logit. -/
theorem v1_apply (b : Fin 16) (k : Fin 64) (n : Fin 1024) :
    val_main_v1 x w (ix3 b k n) = logit (rows w) (sample x b) k n := by
  pointwise [val_main_v1, val_main_v0, logit]
  exact Finset.sum_congr rfl fun _ _ => mul_comm _ _

/-- The host's maximum over the middle axis, from minus infinity, as a maximum over the 64 coordinates of that axis. -/
theorem colMax_apply (y : FVec Ideal S16x64x1024 .f32) (b : Fin 16) (n : Fin 1024) :
    Host.reduce FloatOps.maximumf y (constant S_ .f32 0xFF800000#32) reducesTo_S16x64x1024_S16x1024_d1 h_S_ (ix2 b n)
      = Finset.univ.fold max negInf fun k : Fin 64 => y (ix3 b k n) := by
  pointwise [negInf]

/-- The maximum over the clusters is the greatest logit. -/
theorem v2_apply (b : Fin 16) (n : Fin 1024) :
    val_main_v2 x w (ix2 b n) = top (rows w) (sample x b) n := by
  unfold val_main_v2 top
  refine (colMax_apply (val_main_v1 x w) b n).trans ?_
  simp only [v1_apply]

/-- Compared once more with minus infinity, it is the same. -/
theorem v4_apply (b : Fin 16) (n : Fin 1024) :
    val_main_v4 x w (ix2 b n) = top (rows w) (sample x b) n := by
  rw [val_main_v4_apply, val_main_v3_apply, v2_apply]
  exact max_negInf_top _ _ n

/-- The exponential of a logit less the greatest. -/
theorem v8_apply (b : Fin 16) (k : Fin 64) (n : Fin 1024) :
    val_main_v8 x w (ix3 b k n) = weight (rows w) (sample x b) k n := by
  pointwise [val_main_v8, val_main_v7, val_main_v6, val_main_v5, v1_apply, v4_apply, weight]

/-- The softmax over the clusters is the soft assignment. -/
theorem v12_apply (b : Fin 16) (k : Fin 64) (n : Fin 1024) :
    val_main_v12 x w (ix3 b k n) = assign (rows w) (sample x b) k n := by
  pointwise [val_main_v12, val_main_v11, val_main_v10, val_main_v9, val_main_cst_1, v8_apply, assign]

/-- The residual. -/
theorem v20_apply (b : Fin 16) (k : Fin 64) (c : Fin 2048) :
    val_main_v20 x w cs (ix3 b k c) = residual (rows w) (rows cs) (sample x b) k c := by
  pointwise [val_main_v20, val_main_v13, val_main_v19, val_main_v18, val_main_v17, val_main_v16, val_main_v15,
    val_main_v14, val_main_cst_2, v12_apply, residual]

/-- The residuals of a sample in one row: position `q` is cluster `q / 2048`, channel `q % 2048`. -/
theorem v21_apply (b : Fin 16) (q : Fin 131072) :
    val_main_v21 x w cs (ix2 b q)
      = residual (rows w) (rows cs) (sample x b) ⟨q.val / 2048, by omega⟩ ⟨q.val % 2048, by omega⟩ := by
  rw [val_main_v21_apply, ← v20_apply]
  congr 1
  have hb := b.isLt
  have hq := q.isLt
  funext a
  apply Fin.ext
  fin_cases a
  · show (b.val * 131072 + q.val) / 131072 = b.val
    omega
  · show (b.val * 131072 + q.val) / 2048 % 64 = q.val / 2048
    omega
  · show (b.val * 131072 + q.val) % 2048 = q.val % 2048
    omega

/-- The sum of the squares of a row is the sum over clusters and channels. -/
theorem norm_apply (b : Fin 16) :
    val_main_call0_v1 x w cs (ix1 b) = sumSq (rows w) (rows cs) (sample x b) := by
  pointwise [val_main_call0_v1, val_main_call0_v0, val_main_call0_cst, v21_apply]
  rw [Fin.sum_univ_tiles 64 2048 rfl]
  unfold sumSq
  refine Finset.sum_congr rfl fun k _ => Finset.sum_congr rfl fun c _ => ?_
  have hk : (⟨(k.val * 2048 + c.val) / 2048, by omega⟩ : Fin 64) = k := Fin.ext (by show (k.val * 2048 + c.val) / 2048 = k.val; omega)
  have hc : (⟨(k.val * 2048 + c.val) % 2048, by omega⟩ : Fin 2048) = c := Fin.ext (by show (k.val * 2048 + c.val) % 2048 = c.val; omega)
  simp only [hk, hc]

/-- The reference's result: the residual divided by the bound. -/
theorem v26_apply (b : Fin 16) (q : Fin 131072) :
    val_main_v26 x w cs (ix2 b q)
      = vlad (rows w) (rows cs) (sample x b) ⟨q.val / 2048, by omega⟩ ⟨q.val % 2048, by omega⟩ := by
  pointwise [val_main_v26, val_main_v25, val_main_v24, val_main_v23, val_main_v22, val_main_call0_v2, val_main_cst_3,
    norm_apply, v21_apply, vlad, bound, eps]

/-- The reference's result, at an index: row `i 0` is the aggregation of sample `i 0`, the clusters one after the other. -/
theorem result_eq (m : (ℓ : Loc nD τ sig) → Buf (Elt Ideal) ℓ) (c : Dev nD) (i : S16x131072.Idx) :
    (Cert.ReferenceIdeal.Value.res_main_v26 m c : (⟨S16x131072, .f32⟩ : BufTy).Contents (Elt Ideal)) i
      = vlad (rows (m ((c.tc : Thread nD τ).loc main_arg1))) (rows (m ((c.tc : Thread nD τ).loc main_arg2)))
          (sample (m ((c.tc : Thread nD τ).loc main_arg0)) (i 0))
          ⟨(i 1).val / 2048, by have : (i 1).val < 131072 := (i 1).isLt; omega⟩ ⟨(i 1).val % 2048, by omega⟩ := by
  rw [val_main_v26_eq]
  obtain ⟨b, q, rfl⟩ : ∃ (b : Fin 16) (q : Fin 131072), i = ix2 b q := ⟨i 0, i 1, by idx_ext⟩
  exact v26_apply _ _ _ b q

end Cert.Netvlad.Reference

end
-- ==== Proof.lean ====
/-
  THE PROOF of `Cert.Claim`: the two frames of the kernel (as printed, and at the ideal values), the frame of the
  reference, that the ideal printing rewrote nothing, and the value claim, that at the ideal values kernel and reference
  end with the same result from the same arguments.

  Where each part is: Proof/Spec.lean states what is computed for one sample; Proof/Block.lean what one grid point
  computes; Proof/Array.lean what the grid leaves in its output array; Proof/Result.lean what @main makes of it and the
  kernel's run; Proof/Reference.lean what the reference computes. Both runs end at the same function of the arguments, so
  the value claim is put together here in a few lines.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed leaves its arguments alone and its counters at zero. -/
theorem frameKernel : Cert.quiescent_Kernel (hKernel := Cert.Kernel.Gen.facts) :=
  fun m ρ _ => Cert.Kernel.Gen.frame m ρ

/-- So does the kernel at the ideal values. -/
theorem frameKernelIdeal : Cert.quiescent_KernelIdeal (hKernelIdeal := Cert.KernelIdeal.Gen.facts) :=
  fun m ρ _ => Cert.KernelIdeal.Gen.frame m ρ

/-- So does the reference; it has no counter at all. -/
theorem frameReferenceIdeal : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- At the ideal values kernel and reference, run from the same arguments, end with the same result: each row is the
    normalised aggregation of the row's sample (`Cert.Netvlad.vlad`). -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Netvlad.result m c, Cert.Netvlad.run m ρ, ?_⟩
  refine (θ_run Cert.ReferenceIdeal.defs _ _).mono (fun _ h c => ⟨(h c).1.trans ?_, (h c).2⟩)
    (Cert.ReferenceIdeal.Value.run (F := Ideal) m' ρ')
  funext i
  refine (Cert.Netvlad.Reference.result_eq m' c i).trans ?_
  rw [(hagree c).1, (hagree c).2.1, (hagree c).2.2]
  rfl

/-- The whole certificate. -/
theorem claim : Cert.Claim :=
  ⟨Cert.Kernel.Gen.facts, Cert.KernelIdeal.Gen.facts, Cert.ReferenceIdeal.Gen.facts,
    frameKernel, frameKernelIdeal, frameReferenceIdeal, trivial, algebraic⟩

end Cert.Proof

end
